-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_zero_bias [hPre_in_range_zero_bias : Cert.Pre_in_range_zero_bias.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_zero_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_zero_bias [hPre_in_range_zero_bias : Cert.Pre_in_range_zero_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_zero_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_zero_bias [hKernelIdeal : Cert.KernelIdeal.Facts] [hPre_in_range_zero_bias : Cert.Pre_in_range_zero_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_zero_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_zero_bias [hReferenceIdeal : Cert.ReferenceIdeal.Facts] [hPre_in_range_zero_bias : Cert.Pre_in_range_zero_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_zero_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_zero_bias [hKernelIdeal : Cert.KernelIdeal.Facts] [hReferenceIdeal : Cert.ReferenceIdeal.Facts] [hPre_in_range_zero_bias : Cert.Pre_in_range_zero_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_zero_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_zero_bias : Cert.Pre_in_range_zero_bias.Facts),
    quiescent_Kernel (hKernel := hKernel) (hPre_in_range := hPre_in_range)
    ∧ quiescent_KernelIdeal (hKernelIdeal := hKernelIdeal) (hPre_in_range := hPre_in_range)
    ∧ quiescent_KernelIdeal_pre_in_range_zero_bias (hKernelIdeal := hKernelIdeal) (hPre_in_range_zero_bias := hPre_in_range_zero_bias)
    ∧ quiescent_ReferenceIdeal (hReferenceIdeal := hReferenceIdeal)
    ∧ quiescent_ReferenceIdeal_pre_in_range_zero_bias (hReferenceIdeal := hReferenceIdeal) (hPre_in_range_zero_bias := hPre_in_range_zero_bias)
    ∧ preserves_Kernel_KernelIdeal
    ∧ algebraic_KernelIdeal_ReferenceIdeal_pre_in_range_zero_bias (hKernelIdeal := hKernelIdeal) (hReferenceIdeal := hReferenceIdeal) (hPre_in_range_zero_bias := hPre_in_range_zero_bias)
-- ==== Pre_in_range.lean ====
abbrev S1 : Shape := ⟨1, ![1]⟩
abbrev S100000x128 : Shape := ⟨2, ![100000, 128]⟩
abbrev S100000 : Shape := ⟨1, ![100000]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S1 32) (main_arg1 : FVec F S100000x128 .f32) (main_arg2 : FVec F S100000x128 .f32) (main_arg3 : FVec F S100000 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 100000#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Pre_in_range_zero_bias.lean ====
abbrev S1 : Shape := ⟨1, ![1]⟩
abbrev S100000x128 : Shape := ⟨2, ![100000, 128]⟩
abbrev S100000 : Shape := ⟨1, ![100000]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S100000 : S_.BroadcastsInDim S100000 (![] : Fin 0 → Fin S100000.rank)
  reducesTo_S100000_S_d0 : S100000.ReducesTo [0] S_

variable [Facts]

def fn {F : FTy → Type} [FloatOps F] (main_arg0 : IVec S1 32) (main_arg1 : FVec F S100000x128 .f32) (main_arg2 : FVec F S100000x128 .f32) (main_arg3 : FVec F S100000 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 100000#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  let main_cst : FVec F S_ .f32 := constant S_ .f32 0x00000000#32
  let main_v6 : FVec F S100000 .f32 := broadcastInDim S100000 ![] bcast_S_S100000 main_cst
  let main_v7 : IVec S100000 1 := cmpf .oeq main_arg3 main_v6
  let main_c_2 : IVec S_ 1 := constantI S_ 1 1#1
  let main_v8 : IVec S_ 1 := (fun x v => Host.reduce IntOp.andi x v reducesTo_S100000_S_d0 h_S_) main_v7 main_c_2
  let main_v9 : IVec S_ 1 := andi main_v5 main_v8
  main_v9
-- ==== Kernel.lean ====
abbrev S1 : Shape := ⟨1, ![1]⟩
abbrev S100000x128 : Shape := ⟨2, ![100000, 128]⟩
abbrev S100000 : Shape := ⟨1, ![100000]⟩
abbrev S100000x1x128 : Shape := ⟨3, ![100000, 1, 128]⟩
abbrev S1x1x100000 : Shape := ⟨3, ![1, 1, 100000]⟩
abbrev S1x1x128 : Shape := ⟨3, ![1, 1, 128]⟩
abbrev S3 : Shape := ⟨1, ![3]⟩
abbrev S44928x128 : Shape := ⟨2, ![44928, 128]⟩
abbrev S35072x128 : Shape := ⟨2, ![35072, 128]⟩
abbrev S20000x128 : Shape := ⟨2, ![20000, 128]⟩
abbrev S_ : Shape := ⟨0, ![]⟩
abbrev S1x128 : Shape := ⟨2, ![1, 128]⟩
abbrev S1x1 : Shape := ⟨2, ![1, 1]⟩
abbrev S1x44928 : Shape := ⟨2, ![1, 44928]⟩
abbrev S1x1x44928 : Shape := ⟨3, ![1, 1, 44928]⟩
abbrev S1x35072 : Shape := ⟨2, ![1, 35072]⟩
abbrev S1x1x35072 : Shape := ⟨3, ![1, 1, 35072]⟩
abbrev S1x20000 : Shape := ⟨2, ![1, 20000]⟩
abbrev S1x1x20000 : Shape := ⟨3, ![1, 1, 20000]⟩
abbrev S1x1x1 : Shape := ⟨3, ![1, 1, 1]⟩
abbrev S1x100000 : Shape := ⟨2, ![1, 100000]⟩

abbrev nBuf : Space → Nat
  | .hbm => 6
  | .vmem => 5
  | .smem => 1
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000, .f32⟩
  | .hbm, ⟨3, _⟩ => ⟨S100000x1x128, .f32⟩
  | .hbm, ⟨4, _⟩ => ⟨S1x1x100000, .f32⟩
  | .hbm, ⟨5, _⟩ => ⟨S1x100000, .f32⟩
  | .local _ .vmem, ⟨0, _⟩ => ⟨S1x1x128, .f32⟩
  | .local _ .vmem, ⟨1, _⟩ => ⟨S1x1x100000, .f32⟩
  | .local _ .vmem, ⟨2, _⟩ => ⟨S44928x128, .f32⟩
  | .local _ .vmem, ⟨3, _⟩ => ⟨S35072x128, .f32⟩
  | .local _ .vmem, ⟨4, _⟩ => ⟨S20000x128, .f32⟩
  | .local _ .smem, ⟨0, _⟩ => ⟨S1, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x100000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S1 : Shape := ⟨1, ![1]⟩
abbrev S100000x128 : Shape := ⟨2, ![100000, 128]⟩
abbrev S100000 : Shape := ⟨1, ![100000]⟩
abbrev S_ : Shape := ⟨0, ![]⟩
abbrev S1x1 : Shape := ⟨2, ![1, 1]⟩
abbrev S1x128 : Shape := ⟨2, ![1, 128]⟩
abbrev S128x100000 : Shape := ⟨2, ![128, 100000]⟩
abbrev S1x100000 : Shape := ⟨2, ![1, 100000]⟩

abbrev nBuf : Space → Nat
  | .hbm => 45
  | .vmem => 0
  | .smem => 0
  | _ => 0

abbrev bufTy : (tb : Table) → Fin (tcTables nBuf tb) → BufTy
  | .hbm, ⟨0, _⟩ => ⟨S1, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S_, .i32⟩
  | .hbm, ⟨5, _⟩ => ⟨S1, .i32⟩
  | .hbm, ⟨6, _⟩ => ⟨S1, .i1⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S1, .i32⟩
  | .hbm, ⟨11, _⟩ => ⟨S1x1, .i32⟩
  | .hbm, ⟨12, _⟩ => ⟨S1, .i32⟩
  | .hbm, ⟨13, _⟩ => ⟨S_, .i32⟩
  | .hbm, ⟨14, _⟩ => ⟨S1x1, .i32⟩
  | .hbm, ⟨15, _⟩ => ⟨S1x1, .i1⟩
  | .hbm, ⟨16, _⟩ => ⟨S1x1, .i32⟩
  | .hbm, ⟨17, _⟩ => ⟨S1x1, .i1⟩
  | .hbm, ⟨18, _⟩ => ⟨S1x1, .i1⟩
  | .hbm, ⟨19, _⟩ => ⟨S_, .i1⟩
  | .hbm, ⟨20, _⟩ => ⟨S1, .i1⟩
  | .hbm, ⟨21, _⟩ => ⟨S1x128, .f32⟩
  | .hbm, ⟨22, _⟩ => ⟨S1x128, .i1⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S128x100000, .f32⟩
  | .hbm, ⟨27, _⟩ => ⟨S1x100000, .f32⟩
  | .hbm, ⟨28, _⟩ => ⟨S1x100000, .f32⟩
  | .hbm, ⟨29, _⟩ => ⟨S1x100000, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S1x1, .f32⟩
  | .hbm, ⟨36, _⟩ => ⟨S1x100000, .f32⟩
  | .hbm, ⟨37, _⟩ => ⟨S1x100000, .f32⟩
  | .hbm, ⟨38, _⟩ => ⟨S1x100000, .f32⟩
  | .hbm, ⟨39, _⟩ => ⟨S_, .f32⟩
  | .hbm, ⟨40, _⟩ => ⟨S1, .f32⟩
  | .hbm, ⟨41, _⟩ => ⟨S1x1, .f32⟩
  | .hbm, ⟨42, _⟩ => ⟨S1x1, .f32⟩
  | .hbm, ⟨43, _⟩ => ⟨S1x100000, .f32⟩
  | .hbm, ⟨44, _⟩ => ⟨S1x100000, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_cst : Ref sig .tc := ⟨.hbm, 30, rfl⟩
abbrev main_call1_v0 : Ref sig .tc := ⟨.hbm, 31, rfl⟩
abbrev main_call1_cst_0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_cst_1 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_v5 : Ref sig .tc := ⟨.hbm, 44, rfl⟩

abbrev nD : Nat := 1
abbrev τ : Topo := Topo.v7x

variable {F : FTy → Type} [FloatOps F]
-- ==== Proof.KernelIdealBody.lean ====
/-
  The body of the kernel `KernelIdeal` on one core, as a triple: from its one embedding row, the index it was handed, the matrix
  left in HBM and its scratch buffers, the body runs to its end, faults nowhere, gives every buffer it only reads back as
  it was and its three transfer semaphores back at zero, and leaves its result block written with the pieces that its four
  stores wrote. The first part of the module names what the region finds when it is entered: the buffers after the host's
  reshape of the embedding table, the prefetched index, and the row which that index selects.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region finds -/

/-- All buffers of device `c` when the region is entered: the launch memory after the host's one reshape. -/
abbrev V₀ (c : Dev nD) : Valuation τ sig (Elt F) := StableHlo.after hostOps0 (fun b => m (c, b))

/-- One TensorCore buffer of it. -/
abbrev V (c : Dev nD) (b : Ref sig .tc) : Buf (Elt F) ((c : Thread nD τ).loc b) := V₀ m c (Proc.devRef .tc b)

/-- The reshape writes `main_v0` alone: any other buffer is as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The prefetched index at the region's entry. -/
def tbl : pre0.Contents (Elt F) := fun j => V m (0 : Dev nD) (pre0.ref j)

/-- Every device (there is one) holds that index. -/
theorem V_pre (c : Dev nD) (j : Fin 1) : V m c (pre0.ref j) = tbl m j := by
  obtain rfl : c = 0 := Subsingleton.elim _ _; rfl

/-- The index selects a row inside the embedding table. -/
abbrev Ok : Prop := ok0 (F := F) (tbl m)

/-- The prefetched index as contents the pipeline accepts, and the pipeline at them. -/
abbrev adm (hO : Ok m) : (pcfg0 (F := F)).Adm := ⟨tbl m, hO⟩
abbrev cfgM (hO : Ok m) : Pipeline.Cfg sig Λ₀ := cfg0 (adm m hO)

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-! ## The body's operands -/

/-- The index buffer as the body is handed it. -/
abbrev tbM : Memref sig .tc .smem S1 .i32 := Memref.whole main_arg0
abbrev htbM : tbM.IsWhole := Memref.isWhole_whole _
/-- The three scratch buffers, one per chunk of the matrix. -/
abbrev scA : Memref sig .tc .vmem S44928x128 .f32 := Memref.whole cc0_scratch1
abbrev scB : Memref sig .tc .vmem S35072x128 .f32 := Memref.whole cc0_scratch2
abbrev scC : Memref sig .tc .vmem S20000x128 .f32 := Memref.whole cc0_scratch3
/-- The matrix, left in HBM. -/
abbrev hbW : Memref sig .tc .hbm S100000x128 .f32 := Memref.whole main_arg2

/-- The contents type of memref `M`'s buffer on device `c`; the whole buffer held at `f`; and half of it held at `f`. -/
abbrev MBuf (c : Dev nD) {sp : Space} {S : Shape} {e : EltTy} (M : Memref sig .tc sp S e) : Type := Buf (Elt F) (M.view.loc (c : Thread nD τ))
abbrev heldAt (c : Dev nD) {sp : Space} {S : Shape} {e : EltTy} (M : Memref sig .tc sp S e) (f : MBuf (F := F) c M) : sProp 𝕄 :=
  M.view.loc (c : Thread nD τ) ↦{fullShare} f
abbrev halfAt (c : Dev nD) {S : Shape} {e : EltTy} (M : Memref sig .tc .smem S e) (f : MBuf (F := F) c M) : sProp 𝕄 :=
  M.view.loc (c : Thread nD τ) ↦{fullShare.right} f

/-- The half of the index buffer that the region hands the body. -/
theorem PhiT_eq (c : Dev nD) : (Pipeline.ΦT pre0 (tbl m) c : sProp 𝕄) = iprop(halfAt c tbM (tbl m 0)) := by
  unfold Pipeline.ΦT Pipeline.prefHeld
  rw [show (Finset.univ : Finset (Fin 1)) = {(0 : Fin 1)} from by decide, bigSep_singleton]
  rfl

/-- The body's own three transfer semaphores. -/
abbrev ownSem : Fin 3 → SemLoc sig := fun j => (![SemLoc.dma 2, SemLoc.dma 3, SemLoc.dma 4] : Fin 3 → SemLoc sig) j
theorem ownSemFacts : Pipeline.OwnSemFacts spec0 ownSem := by decide
theorem ownSems_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 2) 0 ∗ semVal ((c : Thread nD τ), SemLoc.dma 3) 0 ∗ semVal ((c : Thread nD τ), SemLoc.dma 4) 0) := by
  rw [Pipeline.ownSems0_eq_of_list c ownSem [0, 1, 2] (by decide) (by decide)]; rfl

/-- The one operand that the body copies itself: the matrix. -/
def HW : Finset (Ref sig .tc) := {main_arg2}
theorem HW_sub : HW ⊆ Pipeline.restRefsP sig pre0 spec0 := by decide
theorem HW_eq (c : Dev nD) :
    (bigSep HW (fun b => ((c : Thread nD τ).loc b) ↦{fullShare} V m c b) : sProp 𝕄) = iprop(heldAt c hbW (V m c main_arg2)) := by
  rw [BI.bigSep_eq_bigSepL_of_eq [main_arg2] (by decide) (by decide)]; rfl

/-- The region's invariant, conjunct by conjunct: the scratch buffers at anything, the generator register, the three
    semaphores at zero, the matrix as the region found it. -/
theorem PhiD_eq (c : Dev nD) :
    (Pipeline.ΦD ownSem spec0 HW (V m) c : sProp 𝕄)
      = iprop(iprop((∃ d, owns (c : Thread nD τ) scA fullShare d) ∗ (∃ d, owns (c : Thread nD τ) scB fullShare d) ∗ (∃ d, owns (c : Thread nD τ) scC fullShare d))
          ∗ (∃ r, prngReg c r)
          ∗ iprop(semVal ((c : Thread nD τ), SemLoc.dma 2) 0 ∗ semVal ((c : Thread nD τ), SemLoc.dma 3) 0 ∗ semVal ((c : Thread nD τ), SemLoc.dma 4) 0)
          ∗ iprop(heldAt c hbW (V m c main_arg2))) := by
  rw [Pipeline.ΦD_eq, scopedRest0_eq, ownSems_eq, HW_eq]; simp only [scA, scB, scC, owns_whole]; try rfl

/-! ## The body's triple -/

set_option maxHeartbeats 1000000 in
/-- The pieces that the body's stores leave in its result block (the last store first), with the proof that the body, on
    whole buffers, runs to its end and hands them back: its row and the matrix as they were, the semaphores at zero, the
    scratch buffers at some contents, the result block written with those pieces. -/
noncomputable def bodyRun (c : Dev nD) (i : grid0.Coords) (arg2 : Memref sig .tc .vmem S1x1x128 .f32) (harg2 : arg2.IsWhole)
    (arg4 : Memref sig .tc .vmem S1x1x100000 .f32) (harg4 : arg4.IsWhole)
    (arg6 : Memref sig .tc .vmem S44928x128 .f32) (harg6 : arg6.IsWhole) (arg7 : Memref sig .tc .vmem S35072x128 .f32) (harg7 : arg7.IsWhole)
    (arg8 : Memref sig .tc .vmem S20000x128 .f32) (harg8 : arg8.IsWhole)
    (x : Vec F S1x1x128 .f32) (xt : MBuf (F := F) c tbM) (w : MBuf (F := F) c hbW) :
    { L : List (View.Piece (Elt F) S1x1x100000 .f32) //
      ∀ (W : Waits sig Unit) (K : PUnit → sProp 𝕄),
        iprop(owns (c : Thread nD τ) arg2 fullShare x ∗ (∃ d, owns (c : Thread nD τ) arg4 fullShare d)
            ∗ (∃ d, owns (c : Thread nD τ) arg6 fullShare d) ∗ (∃ d, owns (c : Thread nD τ) arg7 fullShare d) ∗ (∃ d, owns (c : Thread nD τ) arg8 fullShare d)
            ∗ halfAt c tbM xt
            ∗ semVal ((c : Thread nD τ), SemLoc.dma 2) 0 ∗ semVal ((c : Thread nD τ), SemLoc.dma 3) 0 ∗ semVal ((c : Thread nD τ), SemLoc.dma 4) 0
            ∗ heldAt c hbW w ∗ owes (c : Thread nD τ) 0 W
            ∗ (iprop(owns (c : Thread nD τ) arg2 fullShare x
                ∗ (∃ f, arg4.view.loc (c : Thread nD τ) ↦[arg4.view.set]{fullShare} arg4.view.writes (Elt F) f L)
                ∗ (∃ d, owns (c : Thread nD τ) arg6 fullShare d) ∗ (∃ d, owns (c : Thread nD τ) arg7 fullShare d) ∗ (∃ d, owns (c : Thread nD τ) arg8 fullShare d)
                ∗ halfAt c tbM xt
                ∗ semVal ((c : Thread nD τ), SemLoc.dma 2) 0 ∗ semVal ((c : Thread nD τ), SemLoc.dma 3) 0 ∗ semVal ((c : Thread nD τ), SemLoc.dma 4) 0
                ∗ heldAt c hbW w ∗ (∃ W', owes (c : Thread nD τ) 0 W')) -∗ K ⟨⟩))
          ⊢ wp frame (wpE (defs₀ (F := F)) Variants.none c none) Set.univ
              (cc0__body i tbM htbM arg2 harg2 (Memref.whole main_arg2) (Memref.isWhole_whole _) arg4 harg4 cc0_scratch0 arg6 harg6 arg7 harg7 arg8 harg8) K } := by
  refine ⟨?_, fun W K => ?run⟩
  case run =>
    simp only [cc0__body_eq_skeleton]; unfold cc0__body_skel
    simp only [k0_part1_eq_skeleton, k0_part2_eq_skeleton]
    unfold owns
    iintro ⟨⟨%f0, %hf0, H0⟩, ⟨%d1, %f1, -, H1⟩, ⟨%ds0, %fs0, -, HS0⟩, ⟨%ds1, %fs1, -, HS1⟩, ⟨%ds2, %fs2, -, HS2⟩, HT0, Hq0, Hq1, Hq2, Hh0, HO, Hk⟩
    obtain rfl := harg2.eq_unread hf0
    sl_exec
    sl_step
    iapply Hk
    isplitl [H0]
    · iexists _; isplitr; · ipureintro; exact harg2.read_unread _
      iexact H0
    isplitl [H1]; · iexists _; iexact H1
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [Hq0]; · iexact Hq0
    isplitl [Hq1]; · iexact Hq1
    isplitl [Hq2]; · iexact Hq2
    isplitl [Hh0]; · iexact Hh0
    iexists _; iexact HO

end Cert.KernelIdeal.Hand

end
-- ==== Proof.KernelIdealRun.lean ====
/-
  The run of the kernel `KernelIdeal`: its launch from any memory whose prefetched index selects a row of the embedding table.
  The module states in closed form what the body leaves in its result block (`blockVal`), hands the pipeline that value at its
  one grid point, and concludes with the run of the whole program (`run`): the result buffer ends with the block's value
  reshaped, the four arguments end as they were, and every semaphore is back at zero.
-/
module

public import proofs.«01_k».proof.Proof.KernelIdealBody
public import Idealize.ShloMosaic.Lib.Claim
public import Idealize.ShloMosaic.Lib.VecWindow
public import Idealize.ShloMosaic.Lib.Pipeline.FrameSuffix
public import Idealize.ShloMosaic.Lib.Pipeline.Value
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The result block in closed form -/

/-- The rows 0 to 44927 of the matrix `w`. -/
def rowsA (w : Vec F S100000x128 .f32) : Vec F S44928x128 .f32 :=
  View.ld w (Rect.unit ![0, 0] S44928x128.size inb_S100000x128_S44928x128_0_0)
/-- The rows 44928 to 79999 of it. -/
def rowsB (w : Vec F S100000x128 .f32) : Vec F S35072x128 .f32 :=
  View.ld w (Rect.unit ![44928, 0] S35072x128.size inb_S100000x128_S35072x128_44928_0)
/-- The rows 80000 to 99999 of it. -/
def rowsC (w : Vec F S100000x128 .f32) : Vec F S20000x128 .f32 :=
  View.ld w (Rect.unit ![80000, 0] S20000x128.size inb_S100000x128_S20000x128_80000_0)

/-- The products of the row `x` with all the matrix's rows, as the body's first three stores leave them: one store per chunk. -/
def products (x : Vec F S1x1x128 .f32) (w : Vec F S100000x128 .f32) : Vec F S1x1x100000 .f32 :=
  View.canon
    [ (⟨Rect.unit ![0, 0, 80000] S1x1x20000.size inb_S1x1x100000_S1x1x20000_0_0_80000, k0_pay8 (k0_pay1 x) (rowsC w)⟩ : View.Piece (Elt F) S1x1x100000 .f32),
      (⟨Rect.unit ![0, 0, 44928] S1x1x35072.size inb_S1x1x100000_S1x1x35072_0_0_44928, k0_pay6 (k0_pay1 x) (rowsB w)⟩ : View.Piece (Elt F) S1x1x100000 .f32),
      (⟨Rect.unit ![0, 0, 0] S1x1x44928.size inb_S1x1x100000_S1x1x44928_0_0_0, k0_pay3 x (rowsA w)⟩ : View.Piece (Elt F) S1x1x100000 .f32) ]

/-- The result block: every product less the logarithm of the sum of their exponentials. -/
def blockVal (x : Vec F S1x1x128 .f32) (w : Vec F S100000x128 .f32) : Vec F S1x1x100000 .f32 :=
  k0_pay9 (k0_pay1 x) (k0_pay4 x (rowsA w)) (rowsB w) (rowsC w) (products x w)

/-- A load of the whole buffer after one store of the whole buffer reads what was stored. -/
theorem readCov_whole {sig : RefSig} {κ : Kind} {sp : Space} {S : Shape} {e : EltTy} (v : View sig κ sp S e) {off : Fin S.rank → ℕ}
    (inb : ∀ a, off a + S.size a ≤ S.size a) (d : S.Idx → Elt F e) :
    v.readCov [(⟨Rect.whole S, d⟩ : View.Piece (Elt F) S e)] (Rect.unit off S.size inb).toLoadRect = d := by
  rw [View.readCov_eq_canon']
  funext j
  have hj : (Rect.unit off S.size inb).toLoadRect.idx j = (Rect.whole S).emb j := (Rect.emb_unit_full inb j).trans (funext fun a => Fin.ext (show (j a).val = 0 + 1 * (j a).val by omega))
  rw [hj]
  exact View.canon_cons_emb (Rect.whole S) d [] j

/-- What the body's stores leave in the result block reads as `blockVal`, whatever the block held before. -/
theorem read_bodyRun (c : Dev nD) (i : grid0.Coords) (arg2 : Memref sig .tc .vmem S1x1x128 .f32) (harg2 : arg2.IsWhole)
    (arg4 : Memref sig .tc .vmem S1x1x100000 .f32) (harg4 : arg4.IsWhole)
    (arg6 : Memref sig .tc .vmem S44928x128 .f32) (harg6 : arg6.IsWhole) (arg7 : Memref sig .tc .vmem S35072x128 .f32) (harg7 : arg7.IsWhole)
    (arg8 : Memref sig .tc .vmem S20000x128 .f32) (harg8 : arg8.IsWhole)
    (x : Vec F S1x1x128 .f32) (xt : MBuf (F := F) c tbM) (w : MBuf (F := F) c hbW) (f : arg4.view.ty.Contents (Elt F)) :
    arg4.view.read (Elt F) (arg4.view.writes (Elt F) f (bodyRun c i arg2 harg2 arg4 harg4 arg6 harg6 arg7 harg7 arg8 harg8 x xt w).1)
      = blockVal x w := by
  have hx : arg2.view.readAt (Elt F) (Rect.unit ![0, 0, 0] S1x1x128.size inb_S1x1x128_S1x1x128_0_0_0).toLoadRect (harg2.unread x) = x := by
    rw [View.readAt_full]; exact harg2.read_unread _
  have hA : bodyRun.sl.v16 c arg6 w = rowsA w := by
    unfold bodyRun.sl.v16; rw [readCov_whole]; rfl
  have hB : bodyRun.sl.v29 c arg7 w = rowsB w := by
    unfold bodyRun.sl.v29; rw [readCov_whole]; rfl
  have hC : bodyRun.sl.v42 c arg8 w = rowsC w := by
    unfold bodyRun.sl.v42; rw [readCov_whole]; rfl
  have hr : bodyRun.sl.r c arg2 harg2 x = k0_pay1 x := by
    unfold bodyRun.sl.r; rw [hx]
  unfold bodyRun
  dsimp only
  rw [View.read_writes_full]
  have h53 : bodyRun.sl.v53 c arg2 harg2 arg4 arg6 arg7 arg8 x w = products x w := by
    unfold bodyRun.sl.v53 products
    unfold bodyRun.sl.H1_3
    rw [hA, hB, hC, hr, hx, View.readCov_eq_canon']
    funext j
    exact congrArg _ (Rect.emb_unit_full _ j)
  rw [h53, hB, hC, hr]
  unfold bodyRun.sl.r_1
  rw [hx, hA]
  rfl

/-! ## The pipeline's data -/

/-- The two windows' staging buffers at a grid point, each a whole buffer. -/
abbrev stX (hO : Ok m) (t : Fin (cfgM m hO).N) : Memref sig .tc .vmem S1x1x128 .f32 := spec0_0.stage ((cfgM m hO).slots t 0)
abbrev hstX (hO : Ok m) (t : Fin (cfgM m hO).N) : (stX m hO t).IsWhole := hstage0_0 (((cfgM m hO).slots t 0).cast nbuf0_0)
abbrev stY (hO : Ok m) (t : Fin (cfgM m hO).N) : Memref sig .tc .vmem S1x1x100000 .f32 := spec0_1.stage ((cfgM m hO).slots t 1)
abbrev hstY (hO : Ok m) (t : Fin (cfgM m hO).N) : (stY m hO t).IsWhole := hstage0_1 (((cfgM m hO).slots t 1).cast nbuf0_1)

/-- The body as the pipeline calls it at a grid point. -/
abbrev bodyAt (hO : Ok m) (t : Fin (cfgM m hO).N) : Prog (TpuEff nD τ sig (Elt F) Λ₀ .tc) PUnit :=
  cc0__body (grid0.coords t) tbM htbM (stX m hO t) (hstX m hO t) (Memref.whole main_arg2) (Memref.isWhole_whole _) (stY m hO t) (hstY m hO t)
    cc0_scratch0 scA (Memref.isWhole_whole _) scB (Memref.isWhole_whole _) scC (Memref.isWhole_whole _)

/-- The pipeline's data on a core: the arrays as the region finds them; after the body, the row's buffer still at its
    row and the result's buffer at `blockVal`; the invariant is the body's scratch, register, semaphores, matrix and half
    of the index; nothing is owed and every share is full. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => blockVal (iblk m hO c 0 t) (V m c main_arg2)
  Φ _ := iprop(Pipeline.ΦD ownSem spec0 HW (V m) c ∗ Pipeline.ΦT pre0 (tbl m) c)
  q _ := fullShare
  owed _ := 0

/-- The arrays are as the region finds them. -/
theorem A_eq (hO : Ok m) (c : Dev nD) (w : Fin (cfgM m hO).W) : (dats m hO 0 c).A w = V m c (Pipeline.arrRef spec0 w) := by
  dsimp only [dats]

/-- The row's buffer after the body. -/
theorem after_row (hO : Ok m) (c : Dev nD) (t : Fin (cfgM m hO).N) : (dats m hO 0 c).after 0 t = iblk m hO c 0 t := by
  dsimp only [dats]; try rfl
/-- The result's buffer after the body. -/
theorem after_res (hO : Ok m) (c : Dev nD) (t : Fin (cfgM m hO).N) :
    (dats m hO 0 c).after 1 t = blockVal (iblk m hO c 0 t) (V m c main_arg2) := by
  dsimp only [dats]; try rfl

/-- The row's buffer before the body: the row that the index selects. -/
theorem before_row (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
      (fun t => by rw [after_row]; unfold Dat.blockOf iblk; rw [A_eq]; try rfl) t d).trans
    (by unfold Dat.fetched Dat.blockOf iblk; rw [A_eq]; try rfl)

/-! ## The body at the grid point -/

/-- What the body is handed. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stX m hO t) fullShare ((dats m hO 0 c).before 0 t d))
    ∗ (∃ d, owns (c : Thread nD τ) (stY m hO t) fullShare ((dats m hO 0 c).before 1 t d)))

/-- What it hands back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (stX m hO t) fullShare ((dats m hO 0 c).after 0 t)
    ∗ owns (c : Thread nD τ) (stY m hO t) fullShare ((dats m hO 0 c).after 1 t))

/-- The body, from what it is handed, runs to its end and hands back what it must. -/
theorem body_runs (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_row]
  rw [show (dats m hO 0 c).Φ t.succ = (dats m hO 0 c).Φ t.castSucc from rfl, after_row, after_res]
  rw [show (dats m hO 0 c).Φ t.castSucc = iprop(Pipeline.ΦD ownSem spec0 HW (V m) c ∗ Pipeline.ΦT pre0 (tbl m) c) from rfl,
    PhiD_eq, PhiT_eq]
  unfold Dat.owesAt Pipeline.owesWithin
  rw [show (dats m hO 0 c).owed t.castSucc = 0 from rfl, show (dats m hO 0 c).owed t.succ = 0 from rfl]
  iintro ⟨⟨⟨⟨HA, HB, HC⟩, Hg, ⟨Hq0, Hq1, Hq2⟩, Hw⟩, Ht⟩, ⟨%W, -, HO⟩, ⟨%dx, Hx⟩, ⟨%dy, Hy⟩⟩
  iapply ((bodyRun c (grid0.coords t) (stX m hO t) (hstX m hO t) (stY m hO t) (hstY m hO t) scA (Memref.isWhole_whole _)
    scB (Memref.isWhole_whole _) scC (Memref.isWhole_whole _) (iblk m hO c 0 t) (tbl m 0) (V m c main_arg2)).2 W _)
  isplitl [Hx]; · iexact Hx
  isplitl [Hy]; · iexists _; iexact Hy
  isplitl [HA]; · iexact HA
  isplitl [HB]; · iexact HB
  isplitl [HC]; · iexact HC
  isplitl [Ht]; · iexact Ht
  isplitl [Hq0]; · iexact Hq0
  isplitl [Hq1]; · iexact Hq1
  isplitl [Hq2]; · iexact Hq2
  isplitl [Hw]; · iexact Hw
  isplitl [HO]; · iexact HO
  iintro ⟨Hx, ⟨%f, Hy⟩, HA, HB, HC, Ht, Hq0, Hq1, Hq2, Hw, ⟨%W', HO⟩⟩
  isplitl [HA HB HC Hg Hq0 Hq1 Hq2 Hw Ht]
  · isplitl [HA HB HC Hg Hq0 Hq1 Hq2 Hw]
    · isplitl [HA HB HC]
      · isplitl [HA]; · iexact HA
        isplitl [HB]; · iexact HB
        iexact HC
      isplitl [Hg]; · iexact Hg
      isplitl [Hq0 Hq1 Hq2]
      · isplitl [Hq0]; · iexact Hq0
        isplitl [Hq1]; · iexact Hq1
        iexact Hq2
      iexact Hw
    iexact Ht
  isplitl [HO]
  · iexists W'; isplitr; · ipureintro; exact fun _ _ => Or.inl trivial
    iexact HO
  isplitl [Hx]; · iexact Hx
  unfold owns; iexists _; isplitr
  swap; · iexact Hy
  ipureintro; exact read_bodyRun ..

/-- The program's body table holds this body. -/
theorem defs₀_body (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The pipeline's obligation of its body. -/
theorem body_obligation (hO : Ok m) (c : Dev nD) :
    BodyObligation (dats (F := F) m hO 0 c) (defs₀ (F := F)) Variants.none () Set.univ := fun t => by
  rw [bigSep_W0, bigSep_W0, defs₀_body m hO]
  exact triple_restated (body_runs m hO c t) rfl .rfl fun _ => .rfl

/-! ## The launch -/

/-- The program is the first reshape, the region, the last reshape. -/
theorem main_items (c : Dev nD) : main (F := F) c
    = Pipeline.chain ([hostOps0].map StableHlo.seq ++ [Prog.lift (.customCall (Pipeline.entry 0) ())] ++ [hostOps1].map StableHlo.seq) :=
  main_chain c

/-- The last reshape touches the result arrays alone: neither the index nor the matrix. -/
theorem tail_sub : ∀ ops ∈ [hostOps1 (F := F)], ∀ op ∈ ops, op.bufs ⊆ Pipeline.tailRefsBut sig pre0 spec0 HW := by
  intro ops hops op hop
  obtain rfl := List.mem_singleton.mp hops
  obtain rfl := List.mem_singleton.mp hop
  refine Pipeline.sub_tailRefsBut pre0 spec0 HW _ (StableHlo.reshape_bufs_sub ..) ?_ ?_
  · intro k
    obtain rfl : k = 0 := Subsingleton.elim _ _
    rw [StableHlo.reshape_bufs, Finset.mem_insert, Finset.mem_singleton]
    exact fun h => h.elim (StableHlo.devRef_ne_of_ne (by decide)) (StableHlo.devRef_ne_of_ne (by decide))
  · intro b hb
    obtain rfl := Finset.mem_singleton.mp hb
    rw [StableHlo.reshape_bufs, Finset.mem_insert, Finset.mem_singleton]
    exact fun h => h.elim (StableHlo.devRef_ne_of_ne (by decide)) (StableHlo.devRef_ne_of_ne (by decide))

/-- The last reshape leaves nothing to be chosen, -/
theorem tail_fresh : ∀ ops ∈ [hostOps1 (F := F)], ∀ op ∈ ops, op.fresh = ∅ := by
  intro ops hops op hop
  obtain rfl := List.mem_singleton.mp hops
  obtain rfl := List.mem_singleton.mp hop
  rfl

/-- and writes neither of the pipeline's arrays. -/
theorem tail_keep : ∀ ops ∈ [hostOps1 (F := F)], ∀ op ∈ ops, ∀ w, Proc.devRef .tc (Pipeline.arrRef spec0 w) ∉ op.writes := by
  intro ops hops op hop w
  obtain rfl := List.mem_singleton.mp hops
  obtain rfl := List.mem_singleton.mp hop
  rw [StableHlo.reshape_writes, Finset.mem_singleton]
  revert w
  exact fun | 0 => StableHlo.devRef_ne_of_ne (by decide) | 1 => StableHlo.devRef_ne_of_ne (by decide)

/-- Up to the region: the first reshape, then the region followed by the last reshape. -/
theorem main_around : Pipeline.HMainPK (Ix := Unit) (Name := ℕ) (U := Pipeline.UD sig nD τ) (Lvl := ℕ) pcfgs 0 defs₀ Variants.none m (main (F := F))
    (fun c b => V₀ m c (Proc.devRef .tc b)) (fun _ => Pipeline.chain ([hostOps1].map StableHlo.seq)) :=
  Pipeline.hmainP_around pcfgs 0 defs₀ Variants.none m main [hostOps0] [hostOps1] hostOps0_sub (show (_ : Finset _) = ∅ from rfl) main_items

set_option backward.isDefEq.respectTransparency.types false in
/-- The launch: every fair execution ends with the pipeline's arrays at what its data say, every other buffer at what the
    last reshape leaves of them, and every semaphore at zero. -/
theorem run_main (hO : Ok m) : θ_run defs (onTc (τ := τ) (main (F := F))) (s₀ m ρ)
    (fun r => Pipeline.FramePost (Pipeline.pin pcfgs fun _ => adm m hO) (dats m hO) 0
        (Pipeline.afterTail pcfgs (fun _ => adm m hO) (dats m hO) 0 (V₀ m) [hostOps1]) r ∧ r.2.sem = fun _ => 0) :=
  Pipeline.θ_run_frameP_dma_around (Q' := _) pcfgs (fun _ => adm m hO) (dats m hO) (0 : Fin 1) launch0 ownSem defs₀ Variants.none
    ownSemFacts HW HW_sub m ρ main
    (hbody := fun c => (body_obligation m hO c).loose) (hshare := fun c => (dats m hO 0 c).share_full fun _ => rfl)
    (howed := fun _ _ => rfl) (V₀ := V₀ m) (opss := [hostOps1]) (hsub := tail_sub) (hfresh := tail_fresh) (hkeep := tail_keep)
    (hmain := main_around m) (hA := A_eq m hO) (hpf := V_pre m)
    (hin := fun _ => .rfl) (hout := fun c => by change iprop(_ ∗ _) ⊢ _; iintro ⟨HD, -⟩; iexact HD)

/-! ## What the run leaves -/

/-- The result window's block is its whole array, at the array's own indices. -/
theorem res_emb (hO : Ok m) (t : Fin (cfgM m hO).N) (y : S1x1x100000.Idx) :
    (((cfgM m hO).win 1).blk t).view.emb y = y := by
  funext a
  refine Fin.ext ?_
  exact ((cfgM m hO).win 1).rect_emb_val_of_index_zero t a ((by decide +kernel : ∀ (i : grid0.Coords) (a : Fin 3), cc0_transform_2 i a = 0) (grid0.coords t) a) y

/-- The result window is written back at every point. -/
theorem res_flush (hO : Ok m) : ∀ t : Fin (cfgM m hO).N, ((cfgM m hO).win 1).flush t = true :=
  (by decide +kernel : ∀ t : Fin grid0.N, Pipeline.Window.flushOf grid0 true cc0_transform_2 t = true)

/-- The result array at the end of the pipeline. -/
theorem arr_res (hO : Ok m) (c : Dev nD) :
    (dats m hO 0 c).arrAt 1 (cfgM m hO).N = blockVal (iblk m hO c 0 t0_0) (m ((c : Thread nD τ).loc main_arg2)) := by
  funext y
  have h := (dats m hO 0 c).arrAt_emb_eq_flushed 1 (fun t t' _ _ h => absurd ((fin_N0 t).trans (fin_N0 t').symm) h) t0_0 (res_flush m hO _) y
  refine ((congrArg _ (res_emb m hO t0_0 y)).symm.trans h).trans ?_
  refine (cast_eq _ _).trans ?_
  show (dats m hO 0 c).after 1 t0_0 y = _
  rw [after_res, V_of_ne m c main_arg2 (by decide)]

/-- The final reshape of the result array. -/
theorem final_res (hO : Ok m) (c : Dev nD) :
    Pipeline.afterTail pcfgs (fun _ => adm m hO) (dats m hO) 0 (V₀ m) [hostOps1] c main_v2
      = shapeCast S1x100000 (blockVal (iblk m hO c 0 t0_0) (m ((c : Thread nD τ).loc main_arg2))) shapeCasts_S1x1x100000_S1x100000 := by
  unfold Pipeline.afterTail
  show StableHlo.after hostOps1 _ _ = _
  rw [hostOps1, StableHlo.after_cons, StableHlo.after_nil, StableHlo.reshape_result]
  funext i
  show shapeCast S1x100000 _ _ i = _
  have h := Pipeline.withArrays_arr spec0 (launch0 (F := F)).win.arr_inj c (V₀ m c) (fun w => (dats m hO 0 c).arrAt w (cfgM m hO).N) 1
  exact congrArg (fun z => shapeCast S1x100000 z shapeCasts_S1x1x100000_S1x100000 i) (h.trans (arr_res m hO c))

/-- A buffer that is neither an array of the pipeline nor the result ends as launched. -/
theorem final_arg (hO : Ok m) (c : Dev nD) (b : Ref sig .tc) (hb : ∀ w, Pipeline.arrRef spec0 w ≠ b) (h0 : b ≠ main_v0) (h2 : b ≠ main_v2) :
    Pipeline.afterTail pcfgs (fun _ => adm m hO) (dats m hO) 0 (V₀ m) [hostOps1] c b = m ((c : Thread nD τ).loc b) := by
  unfold Pipeline.afterTail
  show StableHlo.after hostOps1 _ _ = _
  rw [hostOps1, StableHlo.after_cons, StableHlo.after_nil, StableHlo.reshape_result_ne (h := h2), Pipeline.withArrays_of_ne _ _ _ _ _ hb]
  exact V_of_ne m c b h0

/-- THE RUN: from any memory whose index selects a row, every fair execution of the program ends with the result at the
    block's value reshaped, with the four arguments as they were, and with every semaphore at zero. -/
theorem run (hO : Ok m) : θ_run defs (onTc (τ := τ) (main (F := F))) ⟨m, fun _ => 0, ρ⟩ (fun r =>
    (∀ c : Dev nD,
      r.2.mem ((c.tc : Thread nD τ).loc main_v2)
          = shapeCast S1x100000 (blockVal (iblk m hO c 0 t0_0) (m ((c : Thread nD τ).loc main_arg2))) shapeCasts_S1x1x100000_S1x100000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c =>
    ⟨((h.1 c).2 main_v2 (by decide : main_v2 ∈ Pipeline.restRefs sig spec0)).trans (final_res m hO c),
     ((h.1 c).2 main_arg0 (by decide : main_arg0 ∈ Pipeline.restRefs sig spec0)).trans (final_arg m hO c _ (by decide) (by decide) (by decide)),
     ((h.1 c).2 main_arg1 (by decide : main_arg1 ∈ Pipeline.restRefs sig spec0)).trans (final_arg m hO c _ (by decide) (by decide) (by decide)),
     ((h.1 c).2 main_arg2 (by decide : main_arg2 ∈ Pipeline.restRefs sig spec0)).trans (final_arg m hO c _ (by decide) (by decide) (by decide)),
     ((h.1 c).2 main_arg3 (by decide : main_arg3 ∈ Pipeline.restRefs sig spec0)).trans (final_arg m hO c _ (by decide) (by decide) (by decide))⟩,
    h.2⟩) (run_main m ρ hO)

/-! ## The selected row -/

/-- The index, as the word in its one cell. -/
def word (c : Dev nD) : BitVec 32 := m ((c : Thread nD τ).loc main_arg0) (ix1 0)

/-- The prefetched index is that word. -/
theorem V_pre_word (c : Dev nD) : V m c main_arg0 (ix1 0) = word m c := by
  rw [V_of_ne m c main_arg0 (by decide)]; rfl

/-- A vector of one element has one index. -/
theorem one_index (i j : S1.Idx) : i = j := by
  rw [eq_ix1 i, eq_ix1 j]
  exact congrArg ix1 (Subsingleton.elim (α := Fin 1) _ _)

/-- The row window's block number is the index. -/
theorem row_index (i : grid0.Coords) (c : Dev nD) :
    cc0_transform_0 inb_S1_S1_0 numel1_S1 (tbl m) i = ![(word m c).toNat, 0, 0] := by
  have h : (tbl m).at 0 (Rect.unit (s := S1) ![0] S1.size inb_S1_S1_0) numel1_S1 = word m c := by
    rw [← V_pre_word m c]
    obtain rfl : c = 0 := Subsingleton.elim _ _
    exact congrArg (V m 0 main_arg0) (one_index _ _)
  unfold cc0_transform_0
  dsimp only
  rw [h]
  rfl

/-- The embedding table, seen with an axis of one between its two, at an entry. -/
theorem shapeCast_row (T : Vec F S100000x128 .f32) (n : Fin 100000) (k : Fin 128) :
    shapeCast S100000x1x128 T shapeCasts_S100000x128_S100000x1x128 (ix3 n 0 k) = T (ix2 n k) := by
  pointwise

/-- The row window's block is the row of the embedding table that the index selects. -/
theorem iblk_row (hO : Ok m) (c : Dev nD) (t : Fin (cfgM m hO).N) (n : Fin 100000) (hn : (word m c).toNat = n.val) (y : S1x1x128.Idx) :
    iblk m hO c 0 t y = m ((c : Thread nD τ).loc main_arg1) (ix2 n (y 2)) := by
  have hv : V m c main_v0 = shapeCast S100000x1x128 (m ((c : Thread nD τ).loc main_arg1)) shapeCasts_S100000x128_S100000x1x128 := by
    show StableHlo.after hostOps0 _ _ = _
    rw [hostOps0, StableHlo.after_cons, StableHlo.after_nil, StableHlo.reshape_result]
    rfl
  have hi : ∀ a, ((cfgM m hO).win 0).index t a = (![(word m c).toNat, 0, 0] : Fin 3 → ℕ) a :=
    fun a => congrFun (row_index m (grid0.coords t) c) a
  have he : (((cfgM m hO).win 0).blk t).view.emb y = ix3 n 0 (y 2) := by
    funext a
    refine Fin.ext ?_
    refine ((((cfgM m hO).win 0).rect_emb_val t y a).trans (congrArg (fun z => z * S1x1x128.size a + (y a).val) (hi a))).trans ?_
    revert a
    have h0 : (y 0).val = 0 := by have : (y 0).val < 1 := (y 0).isLt; omega
    have h1 : (y 1).val = 0 := by have : (y 1).val < 1 := (y 1).isLt; omega
    refine Fin.forall_fin_succ.2 ⟨?_, Fin.forall_fin_succ.2 ⟨?_, Fin.forall_fin_succ.2 ⟨?_, fun a => a.elim0⟩⟩⟩
    · show (word m c).toNat * 1 + (y 0).val = n.val
      omega
    · show 0 * 1 + (y 1).val = 0
      omega
    · show 0 * 128 + (y 2).val = (y 2).val
      omega
  show V m c main_v0 ((((cfgM m hO).win 0).blk t).view.emb y) = _
  refine (congrArg _ he).trans ?_
  rw [hv]
  generalize m ((c : Thread nD τ).loc main_arg1) = T
  generalize hk : y 2 = k
  exact shapeCast_row T n k

/-- An index inside the table is one whose row the pipeline can move. -/
theorem ok_of_word (h : (word m 0).toNat < 100000) : Ok m := by
  intro i
  refine ⟨fun a => ?_, Or.inl rfl⟩
  rw [row_index m i 0]
  revert a
  refine Fin.forall_fin_succ.2 ⟨?_, Fin.forall_fin_succ.2 ⟨?_, Fin.forall_fin_succ.2 ⟨?_, fun a => a.elim0⟩⟩⟩
  · show ((word m 0).toNat + 1) * 1 ≤ 100000
    omega
  · show (0 + 1) * 1 ≤ 1
    omega
  · show (0 + 1) * 128 ≤ 128
    omega

end Cert.KernelIdeal.Hand

end
-- ==== Proof.LogSoftmax.lean ====
/-
  The mathematics of the certificate, over the extended reals: for any family of scores, each score less the logarithm of the
  sum of all exponentials is the score shifted by the greatest one, less the logarithm of the sum of the shifted
  exponentials (`log_softmax_shift`). No score needs to be finite. A sum is also cut into three consecutive ranges, which
  the kernel sums one by one (`sum_three_ranges`).
-/
module

public import Idealize.ShloMosaic.PureOps.Ideal
public import Mathlib.Algebra.BigOperators.Fin

@[expose] public section

noncomputable section

namespace Cert.LogSoftmax

open Idealize.ShloMosaic

variable {ι : Type} [Fintype ι]

/-- The exponential of an extended real is never negative. -/
theorem exp_nonneg (x : EReal) : 0 ≤ Ideal.exp x := by
  induction x with
  | bot => exact le_refl _
  | top => exact le_top
  | coe r => exact EReal.coe_nonneg.2 (Real.exp_pos r).le

/-- A finite sum of reals, read as an extended real, is the sum of the reals so read. -/
theorem coe_sum (f : ι → ℝ) : ((∑ k, f k : ℝ) : EReal) = ∑ k, (f k : EReal) :=
  map_sum (⟨⟨fun r : ℝ => (r : EReal), EReal.coe_zero⟩, EReal.coe_add⟩ : ℝ →+ EReal) f Finset.univ

/-- The sum of exponentials is infinite once one of the scores is. -/
theorem sum_exp_top (y : ι → EReal) (k : ι) (hk : y k = ⊤) : ∑ i, Ideal.exp (y i) = ⊤ := by
  refine top_le_iff.1 ?_
  have h := Finset.single_le_sum (f := fun i => Ideal.exp (y i)) (fun i _ => exp_nonneg (y i)) (Finset.mem_univ k)
  simpa [hk] using h

/-- The sum of exponentials is zero when every score is negative infinity. -/
theorem sum_exp_bot (y : ι → EReal) (h : ∀ i, y i = ⊥) : ∑ i, Ideal.exp (y i) = 0 :=
  Finset.sum_eq_zero fun i _ => by rw [h i]; rfl

/-- The logarithm of zero is negative infinity. -/
theorem log_zero : Ideal.log 0 = ⊥ := by
  show Ideal.log ((0 : ℝ) : EReal) = ⊥
  rw [Ideal.log_coe, if_pos le_rfl]

/-- The logarithm of the softmax, with and without the shift by the greatest score. -/
theorem log_softmax_shift (y : ι → EReal) (M : EReal) (hle : ∀ i, y i ≤ M) (hM : ∃ i, y i = M) (j : ι) :
    y j - Ideal.log (∑ i, Ideal.exp (y i)) = (y j - M) - Ideal.log (∑ i, Ideal.exp (y i - M)) := by
  obtain ⟨k, hk⟩ := hM
  induction M with
  | top =>
    rw [sum_exp_top y k hk, sum_exp_bot (fun i => y i - ⊤) (fun i => by simp [sub_eq_add_neg]), log_zero]
    simp [sub_eq_add_neg]
  | bot =>
    have hb : ∀ i, y i = ⊥ := fun i => le_bot_iff.1 (hle i)
    simp [hb j, sub_eq_add_neg]
  | coe r =>
    have he : ∀ i, ∃ e : ℝ, 0 ≤ e ∧ Ideal.exp (y i - r) = (e : EReal) ∧ Ideal.exp (y i) = ((Real.exp r * e : ℝ) : EReal) := by
      intro i
      have hi := hle i
      revert hi
      induction y i with
      | top => intro hi; exact absurd hi (by simp)
      | bot => intro _; exact ⟨0, le_rfl, by simp [sub_eq_add_neg], by simp⟩
      | coe a =>
        intro _
        refine ⟨Real.exp (a - r), (Real.exp_pos _).le, ?_, ?_⟩
        · rw [← EReal.coe_sub, Ideal.exp_coe]
        · rw [Ideal.exp_coe, ← Real.exp_add]
          congr 2
          ring
    choose e h0 h1 h2 using he
    have hpos : 0 < ∑ i, e i := by
      refine Finset.sum_pos' (fun i _ => h0 i) ⟨k, Finset.mem_univ k, ?_⟩
      have h := h1 k
      rw [hk, ← EReal.coe_sub, Ideal.exp_coe, EReal.coe_eq_coe_iff, sub_self, Real.exp_zero] at h
      rw [← h]; exact one_pos
    simp only [h1, h2, ← coe_sum, ← Finset.mul_sum, Ideal.log_coe]
    rw [if_neg (not_le.2 hpos), if_neg (not_le.2 (mul_pos (Real.exp_pos r) hpos)), Real.log_mul (Real.exp_pos r).ne' hpos.ne', Real.log_exp]
    have hj := hle j
    revert hj
    induction y j with
    | top => intro hj; exact absurd hj (by simp)
    | bot => intro _; simp [sub_eq_add_neg]
    | coe a =>
      intro _
      rw [← EReal.coe_sub, ← EReal.coe_sub, ← EReal.coe_sub]
      congr 1
      ring

/-- The greatest of finitely many scores, as a fold from negative infinity, bounds them all. -/
theorem le_fold_max (y : ι → EReal) (i : ι) : y i ≤ Finset.univ.fold max ⊥ y :=
  (Finset.le_fold_max (y i)).2 (Or.inr ⟨i, Finset.mem_univ i, le_rfl⟩)

/-- The greatest of finitely many scores, as a fold from negative infinity, is one of them. -/
theorem exists_eq_fold_max [Nonempty ι] (y : ι → EReal) : ∃ i, y i = Finset.univ.fold max ⊥ y := by
  obtain ⟨i, -, hi⟩ := Finset.exists_max_image Finset.univ y Finset.univ_nonempty
  exact ⟨i, le_antisymm (le_fold_max y i) ((Finset.fold_max_le (y i)).2 ⟨bot_le, hi⟩)⟩

/-- A sum over `a + b` places is the sum over the first `a` plus that over the last `b`. -/
theorem sum_two_ranges (a b : ℕ) (f : Fin (a + b) → EReal) :
    ∑ n, f n = ∑ n : Fin a, f (Fin.castAdd b n) + ∑ n : Fin b, f (Fin.natAdd a n) :=
  Fin.sum_univ_add f

/-- A sum over `a + b + c` places is the sum over the first `a`, plus that over the next `b`, plus that over the last `c`. -/
theorem sum_three_ranges (a b c N : ℕ) (h : N = a + b + c) (f : Fin N → EReal) :
    ∑ n, f n = (∑ n : Fin a, f ⟨n.val, by omega⟩ + ∑ n : Fin b, f ⟨a + n.val, by omega⟩)
      + ∑ n : Fin c, f ⟨a + b + n.val, by omega⟩ := by
  subst h
  exact (sum_two_ranges (a + b) c f).trans (congrArg (· + _) (sum_two_ranges a b fun i => f (Fin.castAdd c i)))

end Cert.LogSoftmax

end
-- ==== Proof.KernelIdealValue.lean ====
/-
  The value of the kernel's result block over the extended reals, entry by entry: the product of the row with one row of the
  matrix, less the logarithm of the sum of the exponentials of all the products (`blockVal_at`).
-/
module

public import proofs.«01_k».proof.Proof.KernelIdealRun
public import proofs.«01_k».proof.Proof.LogSoftmax
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

variable (x : FVec Ideal S1x1x128 .f32) (w : FVec Ideal S100000x128 .f32)

/-- The product of the row `x` with the row `n` of the matrix `w`. -/
def score (n : Fin 100000) : EReal := ∑ k : Fin 128, x (ix3 0 0 k) * w (ix2 n k)

/-- The first chunk's product at `n` is the score of row `n`. -/
theorem pay2_at (n : Fin 44928) : k0_pay2 (F := Ideal) x (rowsA w) (ix2 0 n) = score x w ⟨n.val, by omega⟩ := by
  pointwise [k0_pay2, k0_pay1, rowsA, score]

/-- The second chunk's product at `n` is the score of row 44928 + `n`. -/
theorem pay5_at (n : Fin 35072) : k0_pay5 (F := Ideal) (k0_pay1 x) (rowsB w) (ix2 0 n) = score x w ⟨44928 + n.val, by omega⟩ := by
  pointwise [k0_pay5, k0_pay1, rowsB, score]

/-- The third chunk's product at `n` is the score of row 80000 + `n`. -/
theorem pay7_at (n : Fin 20000) : k0_pay7 (F := Ideal) (k0_pay1 x) (rowsC w) (ix2 0 n) = score x w ⟨80000 + n.val, by omega⟩ := by
  pointwise [k0_pay7, k0_pay1, rowsC, score]

/-- The logarithm of the softmax at `j`, from a block `p` of products. -/
theorem pay9_at (p : FVec Ideal S1x1x100000 .f32) (j : Fin 100000) :
    k0_pay9 (F := Ideal) (k0_pay1 x) (k0_pay4 x (rowsA w)) (rowsB w) (rowsC w) p (ix3 0 0 j)
      = p (ix3 0 0 j) - Ideal.log (∑ n, Ideal.exp (score x w n)) := by
  rw [LogSoftmax.sum_three_ranges 44928 35072 20000 100000 rfl]
  pointwise [k0_pay9, k0_pay4]
  refine congrArg (fun s => p (ix3 0 0 j) - Ideal.log s) (congrArg₂ (· + ·) (congrArg₂ (· + ·) ?_ ?_) ?_)
  · exact Finset.sum_congr rfl fun n _ => congrArg Ideal.exp (pay2_at x w n)
  · exact Finset.sum_congr rfl fun n _ => congrArg Ideal.exp (pay5_at x w n)
  · exact Finset.sum_congr rfl fun n _ => congrArg Ideal.exp (pay7_at x w n)

/-- Inside a strip of the result block that was stored last, the block reads what was stored. -/
theorem canon_strip (o c : ℕ) (inb : ∀ a, (![0, 0, o] : Fin 3 → ℕ) a + (⟨3, ![1, 1, c]⟩ : Shape).size a ≤ S1x1x100000.size a)
    (d : (⟨3, ![1, 1, c]⟩ : Shape).Idx → EReal) (L : List (View.Piece (Elt Ideal) S1x1x100000 .f32)) (n : Fin c) (j : Fin 100000)
    (hj : j.val = o + n.val) :
    View.canon ((⟨Rect.unit (s := S1x1x100000) ![0, 0, o] (⟨3, ![1, 1, c]⟩ : Shape).size inb, d⟩ : View.Piece (Elt Ideal) S1x1x100000 .f32) :: L) (ix3 0 0 j)
      = d (ix3 0 0 n) := by
  refine (congrArg _ ?_).trans (View.canon_cons_emb (Val := Elt Ideal) (e := .f32) (Rect.unit (s := S1x1x100000) ![0, 0, o] (⟨3, ![1, 1, c]⟩ : Shape).size inb) d L (ix3 0 0 n))
  funext a
  refine Fin.ext ?_
  match a with
  | ⟨0, _⟩ => rfl
  | ⟨1, _⟩ => rfl
  | ⟨2, _⟩ => show j.val = o + 1 * n.val; omega

/-- Off a strip of the result block that was stored last, the block reads what the earlier stores left. -/
theorem canon_off_strip (o c : ℕ) (inb : ∀ a, (![0, 0, o] : Fin 3 → ℕ) a + (⟨3, ![1, 1, c]⟩ : Shape).size a ≤ S1x1x100000.size a)
    (d : (⟨3, ![1, 1, c]⟩ : Shape).Idx → EReal) (L : List (View.Piece (Elt Ideal) S1x1x100000 .f32)) (j : Fin 100000)
    (hj : j.val < o) :
    View.canon ((⟨Rect.unit (s := S1x1x100000) ![0, 0, o] (⟨3, ![1, 1, c]⟩ : Shape).size inb, d⟩ : View.Piece (Elt Ideal) S1x1x100000 .f32) :: L) (ix3 0 0 j)
      = View.canon L (ix3 0 0 j) := by
  refine View.canon_cons_of_not_mem (Val := Elt Ideal) (e := .f32) _ L fun h => ?_
  have h2 : o ≤ j.val := ((Rect.mem_set_unit (inb := inb)).1 h 2).1
  omega

/-- The products the body stores: at `j`, the score of row `j`. -/
theorem products_at (j : Fin 100000) : products (F := Ideal) x w (ix3 0 0 j) = score x w j := by
  unfold products
  by_cases hC : 80000 ≤ j.val
  · rw [canon_strip (n := (⟨j.val - 80000, by omega⟩ : Fin 20000)) (j := j) (hj := by show j.val = 80000 + (j.val - 80000); omega)]
    pointwise [k0_pay8]
    rw [pay7_at]
    exact congrArg (score x w) (Fin.ext (show 80000 + (j.val - 80000) = j.val by omega))
  rw [canon_off_strip (j := j) (hj := by omega)]
  by_cases hB : 44928 ≤ j.val
  · rw [canon_strip (n := (⟨j.val - 44928, by omega⟩ : Fin 35072)) (j := j) (hj := by show j.val = 44928 + (j.val - 44928); omega)]
    pointwise [k0_pay6]
    rw [pay5_at]
    exact congrArg (score x w) (Fin.ext (show 44928 + (j.val - 44928) = j.val by omega))
  rw [canon_off_strip (j := j) (hj := by omega)]
  rw [canon_strip (n := (⟨j.val, by omega⟩ : Fin 44928)) (j := j) (hj := by show j.val = 0 + j.val; omega)]
  pointwise [k0_pay3]
  rw [pay2_at]

/-- The result block at `j`. -/
theorem blockVal_at (j : Fin 100000) :
    blockVal (F := Ideal) x w (ix3 0 0 j) = score x w j - Ideal.log (∑ n, Ideal.exp (score x w n)) := by
  unfold blockVal
  rw [pay9_at, products_at]

/-- The result block, its leading axis dropped. -/
theorem shapeCast_block (v : FVec Ideal S1x1x100000 .f32) (j : Fin 100000) :
    shapeCast S1x100000 v shapeCasts_S1x1x100000_S1x100000 (ix2 0 j) = v (ix3 0 0 j) := by
  pointwise

/-- The score of row `n` from the block the pipeline hands the body: the row of the table `e` that the index names, times row `n`. -/
theorem score_row (e : FVec Ideal S100000x128 .f32) (r : Fin 100000) (hx : ∀ y : S1x1x128.Idx, x y = e (ix2 r (y 2))) (n : Fin 100000) :
    score x w n = ∑ k : Fin 128, e (ix2 r k) * w (ix2 n k) :=
  Finset.sum_congr rfl fun k _ => congrArg (· * w (ix2 n k)) (hx (ix3 0 0 k))

/-- The kernel's result at `j`, where the block handed to the body is row `r` of the table `e`. -/
theorem result_at (e : FVec Ideal S100000x128 .f32) (r : Fin 100000) (hx : ∀ y : S1x1x128.Idx, x y = e (ix2 r (y 2))) (j : Fin 100000) :
    shapeCast S1x100000 (blockVal (F := Ideal) x w) shapeCasts_S1x1x100000_S1x100000 (ix2 0 j)
      = (∑ k : Fin 128, e (ix2 r k) * w (ix2 j k)) - Ideal.log (∑ l : Fin 100000, Ideal.exp (∑ k : Fin 128, e (ix2 r k) * w (ix2 l k))) := by
  rw [shapeCast_block, blockVal_at]
  simp only [score_row x w e r hx]

end Cert.KernelIdeal.Hand

end
-- ==== Proof.ReferenceIdealValue.lean ====
/-
  The value of the reference's result over the extended reals, entry by entry. The reference takes one row of the table by
  its index (`taken`), multiplies it with every row of the matrix and adds the bias (`scores`), and takes the logarithm of
  the softmax after a shift by the greatest score (`logSoftmax`). Where the index lies inside the table and the bias is zero
  at every place, entry `j` is the product with row `j`, less the logarithm of the sum of all the products' exponentials (`result_at`).
-/
module

public import proofs.«01_k».proof.Proof.Gen.ReferenceIdeal.Run
public import proofs.«01_k».proof.Proof.LogSoftmax
public import Idealize.ShloMosaic.Lib.Pointwise
public import Idealize.ShloMosaic.Lib.ReduceAll
public import Idealize.ShloMosaic.Lib.WordCmp
public import Idealize.ShloMosaic.Lib.Routing.Ops

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable (i : IVec S1 32) (e w : FVec Ideal S100000x128 .f32) (b : FVec Ideal S100000 .f32)

/-- The index as the lookup uses it: a negative one counts from the table's end. -/
def start : IVec S1x1 32 :=
  broadcastInDim S1x1 ![0] bcast_S1_S1x1_0 (select (cmpi .slt i (broadcastInDim S1 ![] bcast_S_S1 (constantI S_ 32 0#32)))
    (addi i (broadcastInDim S1 ![] bcast_S_S1 (constantI S_ 32 100000#32))) i)

/-- Whether the index so read lies inside the table. -/
def inside : IVec S1 1 :=
  Host.reduce IntOp.andi (andi (cmpi .sge (start i) (broadcastInDim S1x1 ![] bcast_S_S1x1 (constantI S_ 32 0#32)))
    (cmpi .sle (start i) (broadcastInDim S1x1 ![1] bcast_S1_S1x1_1 (constantI S1 32 99999#32)))) (constantI S_ 1 1#1) reducesTo_S1x1_S1_d1 h_S_

/-- The row of the table that the index names, or a row of fillers. -/
def taken : FVec Ideal S1x128 .f32 :=
  select (broadcastInDim S1x128 ![0] bcast_S1_S1x128_0 (inside i))
    (Host.gather gather_S100000x128_S1x1_S1x128_1_0_n_n_0_1_1128 e (start i)) (broadcastInDim S1x128 ![] bcast_S_S1x128 (constant S_ .f32 0x7FC00000#32))

/-- The row times the matrix transposed, plus the bias. -/
def scores : FVec Ideal S1x100000 .f32 :=
  addf (Host.dotGeneral dot_S1x128_S128x100000_S1x100000_1_0_0_1_n_n none (taken i e)
      (transpose S128x100000 [1, 0] w transposes_S100000x128_S128x100000_1_0))
    (broadcastInDim S1x100000 ![1] bcast_S100000_S1x100000_1 b)

/-- The greatest score, as the search over all of them finds it. -/
def found (y : FVec Ideal S1x100000 .f32) : FVec Ideal S1 .f32 :=
  Host.reduce FloatOps.maximumf y (constant S_ .f32 0xFF800000#32) reducesTo_S1x100000_S1_d1 h_S_

/-- The scores less the greatest of them. -/
def shifted (y : FVec Ideal S1x100000 .f32) : FVec Ideal S1x100000 .f32 :=
  subf y (broadcastInDim S1x100000 ![0, 1] bcast_S1x1_S1x100000_0_1 (broadcastInDim S1x1 ![0] bcast_S1_S1x1_0
    (maximumf (broadcastInDim S1 ![] bcast_S_S1 (constant S_ .f32 0xFF800000#32)) (found y))))

/-- The shifted scores less the logarithm of the sum of their exponentials. -/
def logSoftmax (y : FVec Ideal S1x100000 .f32) : FVec Ideal S1x100000 .f32 :=
  subf (shifted y) (broadcastInDim S1x100000 ![0, 1] bcast_S1x1_S1x100000_0_1 (Host.log (broadcastInDim S1x1 ![0] bcast_S1_S1x1_0
    (Host.reduceAdd (Host.exp (shifted y)) (constant S_ .f32 0x00000000#32) reducesTo_S1x100000_S1_d1 h_S_))))

/-- The reference's result, in these words. -/
theorem result_eq (m : (ℓ : Loc nD τ sig) → Buf (Elt Ideal) ℓ) (c : Dev nD) :
    Value.res_main_v5 m c = logSoftmax (scores (m ((c.tc : Thread nD τ).loc main_arg0)) (m ((c.tc : Thread nD τ).loc main_arg1))
      (m ((c.tc : Thread nD τ).loc main_arg2)) (m ((c.tc : Thread nD τ).loc main_arg3))) := rfl

/-- An index inside the table is used as it is. -/
theorem start_at (h : (i (ix1 0)).toNat < 100000) : start i (ix2 0 0) = i (ix1 0) := by
  unfold start
  pointwise
  rw [WordCmp.cmpi_slt_zero, decide_eq_false (by omega)]
  rfl

/-- An index inside the table is found to be so. -/
theorem inside_at (h : (i (ix1 0)).toNat < 100000) : inside i (ix1 0) = 1#1 := by
  unfold inside
  refine Host.reduce_andi_one _ _ _ _ _ rfl fun p => ?_
  idx_vars p
  pointwise
  obtain rfl : p0 = 0 := Subsingleton.elim _ _
  obtain rfl : p1 = 0 := Subsingleton.elim _ _
  rw [start_at i h]
  rw [WordCmp.cmpi_sge_zero, WordCmp.cmpi_sle_of_lt (by omega) (by decide), decide_eq_true (by omega),
    decide_eq_true (show (i (ix1 0)).toNat ≤ (99999#32 : BitVec 32).toNat from Nat.le_of_lt_succ h)]
  rfl

/-- With an index inside the table, the row it names is taken. -/
theorem taken_at (n : Fin 100000) (h : (i (ix1 0)).toNat = n.val) (k : Fin 128) : taken i e (ix2 0 k) = e (ix2 n k) := by
  have hn : (i (ix1 0)).toNat < 100000 := h ▸ n.isLt
  unfold taken
  pointwise [inside_at i hn]
  refine Routing.gather_row _ rfl rfl rfl rfl rfl e (start i) 0 k n ?_ (by decide)
  refine (start_at i hn).trans ?_
  rw [← h, BitVec.ofNat_toNat, BitVec.setWidth_eq]

/-- The score of row `j`, where the bias is zero there. -/
theorem scores_at (n : Fin 100000) (h : (i (ix1 0)).toNat = n.val) (j : Fin 100000) (hb : b (ix1 j) = 0) :
    scores i e w b (ix2 0 j) = ∑ k : Fin 128, e (ix2 n k) * w (ix2 j k) := by
  unfold scores
  pointwise
  rw [hb, add_zero]
  exact Finset.sum_congr rfl fun k _ => congrArg (· * w (ix2 j k)) (taken_at i e n h k)

/-- The pattern the greatest score's search starts from is negative infinity. -/
theorem start_value : Ideal.ofBits FTy.f32 0xFF800000#32 = ⊥ := by simp [Ideal.ofBits, Ideal.ieee]

/-- The greatest score, as a fold of the maximum from negative infinity. -/
theorem found_at (y : FVec Ideal S1x100000 .f32) : found y (ix1 0) = Finset.univ.fold max ⊥ (fun k : Fin 100000 => y (ix2 0 k)) := by
  have h : found y (ix1 0) = Finset.univ.fold max (Ideal.ofBits FTy.f32 0xFF800000#32) (fun k : Fin 100000 => y (ix2 0 k)) := by
    unfold found
    pointwise
  rw [h, start_value]

/-- One number spread over all the columns reads as that number. -/
theorem spread_at (v : FVec Ideal S1 .f32) (j : Fin 100000) :
    broadcastInDim S1x100000 ![0, 1] bcast_S1x1_S1x100000_0_1 (broadcastInDim S1x1 ![0] bcast_S1_S1x1_0 v) (ix2 0 j) = v (ix1 0) := by
  pointwise

/-- The greater of negative infinity and the greatest score is the greatest score. -/
theorem bounded_at (v : FVec Ideal S1 .f32) :
    maximumf (broadcastInDim S1 ![] bcast_S_S1 (constant S_ .f32 0xFF800000#32)) v (ix1 0) = v (ix1 0) := by
  have h : maximumf (broadcastInDim S1 ![] bcast_S_S1 (constant S_ .f32 0xFF800000#32)) v (ix1 0)
      = max (Ideal.ofBits FTy.f32 0xFF800000#32) (v (ix1 0)) := by
    pointwise
  rw [h, start_value, max_eq_right bot_le]

/-- A shifted score is the score less the greatest one. -/
theorem shifted_at (y : FVec Ideal S1x100000 .f32) (j : Fin 100000) :
    shifted y (ix2 0 j) = y (ix2 0 j) - Finset.univ.fold max ⊥ (fun k : Fin 100000 => y (ix2 0 k)) :=
  congrArg (fun z : EReal => y (ix2 0 j) - z) ((spread_at _ j).trans ((bounded_at _).trans (found_at y)))

/-- The logarithm of the softmax of any scores: the shift changes nothing. -/
theorem logSoftmax_at (y : FVec Ideal S1x100000 .f32) (j : Fin 100000) :
    logSoftmax y (ix2 0 j) = y (ix2 0 j) - Ideal.log (∑ k : Fin 100000, Ideal.exp (y (ix2 0 k))) := by
  unfold logSoftmax
  pointwise
  simp only [shifted_at]
  exact (LogSoftmax.log_softmax_shift (fun k : Fin 100000 => y (ix2 0 k)) _ (LogSoftmax.le_fold_max _) (LogSoftmax.exists_eq_fold_max _) j).symm

/-- The reference's result at `j`, where the index names row `n` of the table and the bias is zero. -/
theorem result_at (m : (ℓ : Loc nD τ sig) → Buf (Elt Ideal) ℓ) (c : Dev nD) (i : IVec S1 32) (e w : FVec Ideal S100000x128 .f32)
    (b : FVec Ideal S100000 .f32)
    (h0 : m ((c.tc : Thread nD τ).loc main_arg0) = i) (h1 : m ((c.tc : Thread nD τ).loc main_arg1) = e)
    (h2 : m ((c.tc : Thread nD τ).loc main_arg2) = w) (h3 : m ((c.tc : Thread nD τ).loc main_arg3) = b)
    (n : Fin 100000) (hn : (i (ix1 0)).toNat = n.val) (hb : ∀ k : Fin 100000, b (ix1 k) = 0) (j : Fin 100000) :
    (Value.res_main_v5 m c : FVec Ideal S1x100000 .f32) (ix2 0 j)
      = (∑ k : Fin 128, e (ix2 n k) * w (ix2 j k)) - Ideal.log (∑ l : Fin 100000, Ideal.exp (∑ k : Fin 128, e (ix2 n k) * w (ix2 l k))) := by
  subst h0 h1 h2 h3
  rw [result_eq, logSoftmax_at]
  simp only [scores_at _ _ _ _ n hn _ (hb _)]

end Cert.ReferenceIdeal.Hand

end
-- ==== Proof.Preconditions.lean ====
/-
  What the certificate's two preconditions say of the arguments: the index is the number of a row of the table, and, under the
  second one, the bias is zero at every place.
-/
module

public import proofs.«01_k».proof.Proof.Gen.Pre_in_range
public import proofs.«01_k».proof.Proof.Gen.Pre_in_range_zero_bias
public import Idealize.ShloMosaic.Lib.Pointwise
public import Idealize.ShloMosaic.Lib.ReduceAll
public import Idealize.ShloMosaic.Lib.WordCmp

@[expose] public section

noncomputable section

namespace Cert.Preconditions

open Idealize.ShloMosaic

/-- A word that is at least zero and less than 100000, both compared signed, is a number below 100000. -/
theorem lt_of_compared (x : BitVec 32)
    (h : IntOp.andi (IntOp.cmpi .sge x 0#32) (IntOp.cmpi .slt x 100000#32) = 1#1) : x.toNat < 100000 := by
  rw [show (100000#32 : BitVec 32) = BitVec.ofNat 32 100000 from rfl, WordCmp.andi_sge_zero_slt_ofNat (by decide)] at h
  exact (WordCmp.ofBool_decide_eq_one_iff _).1 h

section InRange
open Cert.Pre_in_range Cert.Pre_in_range.Gen

/-- Under the first precondition the index is the number of a row. -/
theorem index_lt {F : FTy → Type} [FloatOps F] (a0 : IVec S1 32) (a1 a2 : FVec F S100000x128 .f32) (a3 : FVec F S100000 .f32)
    (h : Cert.Pre_in_range.fn a0 a1 a2 a3 = fun _ => 1#1) : (a0 (ix1 0)).toNat < 100000 := by
  haveI : Subsingleton S_.Idx := ⟨fun p q => funext fun a => a.elim0⟩
  have e := congrFun h (fun a => a.elim0)
  unfold Cert.Pre_in_range.fn at e
  exact lt_of_compared _ (Host.reduce_andi_all _ _ _ _ _ e (ix1 0))

end InRange

section ZeroBias
open Cert.Pre_in_range_zero_bias Cert.Pre_in_range_zero_bias.Gen

/-- Under the second precondition the index is the number of a row and the bias is zero. -/
theorem index_lt_and_zero (a0 : IVec S1 32) (a1 a2 : FVec Ideal S100000x128 .f32) (a3 : FVec Ideal S100000 .f32)
    (h : Cert.Pre_in_range_zero_bias.fn a0 a1 a2 a3 = fun _ => 1#1) :
    (a0 (ix1 0)).toNat < 100000 ∧ ∀ k : Fin 100000, a3 (ix1 k) = 0 := by
  haveI : Subsingleton S_.Idx := ⟨fun p q => funext fun a => a.elim0⟩
  have e := congrFun h (fun a => a.elim0)
  unfold Cert.Pre_in_range_zero_bias.fn at e
  obtain ⟨e1, e2⟩ := IntOp.andi_eq_one.1 e
  refine ⟨lt_of_compared _ (Host.reduce_andi_all _ _ _ _ _ e1 (ix1 0)), fun k => ?_⟩
  have hk := Host.reduce_andi_all _ _ _ _ _ e2 (ix1 k)
  have hz : Ideal.cmp .oeq (a3 (ix1 k)) (Ideal.ofBits FTy.f32 0x00000000#32) = 1#1 := hk
  rw [show Ideal.ofBits FTy.f32 0x00000000#32 = 0 from by simp [Ideal.ofBits, Ideal.ieee]] at hz
  exact (WordCmp.ofBool_decide_eq_one_iff _).1 hz

end ZeroBias

end Cert.Preconditions

end
-- ==== Proof.lean ====
/-
  The proof of `Cert.Claim`: the kernel runs and keeps its arguments at both number systems wherever its index names a row of the
  table, the reference runs and keeps its arguments, the kernel read over the extended reals is its own text, and there the
  kernel and the reference end with equal results when, besides, the bias is zero.
  The runs are `Kernel.Hand.run`, `KernelIdeal.Hand.run` (KernelRun.lean, KernelIdealRun.lean) and the reference's generated one; the
  preconditions are read in Preconditions.lean; the two results, entry by entry, are in KernelIdealValue.lean and
  ReferenceIdealValue.lean, and the equation between them is LogSoftmax.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_in_range_zero_bias
public import proofs.«01_k».proof.Proof.Gen.ReferenceIdeal.Run
public import proofs.«01_k».proof.Proof.KernelRun
public import proofs.«01_k».proof.Proof.KernelIdealRun
public import proofs.«01_k».proof.Proof.KernelIdealValue
public import proofs.«01_k».proof.Proof.ReferenceIdealValue
public import proofs.«01_k».proof.Proof.Preconditions
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel, at bit-exact floats, runs and keeps its arguments wherever the index names a row of the table. -/
theorem kernel_frame : quiescent_Kernel := fun m g h =>
  (θ_run Cert.Kernel.defs _ _).mono (fun r hr => ⟨fun c => (hr.1 c).2, hr.2⟩)
    (Cert.Kernel.Hand.run m g (Cert.Kernel.Hand.ok_of_word m (Preconditions.index_lt _ _ _ _ (h 0))))

/-- So does the kernel over the extended reals. -/
theorem kernelIdeal_frame : quiescent_KernelIdeal := fun m g h =>
  (θ_run Cert.KernelIdeal.defs _ _).mono (fun r hr => ⟨fun c => (hr.1 c).2, hr.2⟩)
    (Cert.KernelIdeal.Hand.run m g (Cert.KernelIdeal.Hand.ok_of_word m (Preconditions.index_lt _ _ _ _ (h 0))))

/-- And where, besides, the bias is zero. -/
theorem kernelIdeal_frame_zero_bias : quiescent_KernelIdeal_pre_in_range_zero_bias := fun m g h =>
  (θ_run Cert.KernelIdeal.defs _ _).mono (fun r hr => ⟨fun c => (hr.1 c).2, hr.2⟩)
    (Cert.KernelIdeal.Hand.run m g (Cert.KernelIdeal.Hand.ok_of_word m (Preconditions.index_lt_and_zero _ _ _ _ (h 0)).1))

/-- The reference runs and keeps its arguments, whatever they are. -/
theorem reference_frame : quiescent_ReferenceIdeal := fun m g _ =>
  (θ_run Cert.ReferenceIdeal.defs _ _).mono
    (fun r hr => ⟨fun c => (hr c).2, Idealize.ShloMosaic.sem_eq_zero_of_no_sems (by decide) r.2⟩)
    (Cert.ReferenceIdeal.Value.run (F := Ideal) m g)

/-- In particular where the index names a row and the bias is zero. -/
theorem reference_frame_zero_bias : quiescent_ReferenceIdeal_pre_in_range_zero_bias := fun m g _ => reference_frame m g trivial

/-- Over the extended reals the kernel's result is the reference's, where the index names a row and the bias is zero. -/
theorem results_equal : algebraic_KernelIdeal_ReferenceIdeal_pre_in_range_zero_bias := by
  intro m g m' g' hpre hagree
  have hO := Cert.KernelIdeal.Hand.ok_of_word m (Preconditions.index_lt_and_zero _ _ _ _ (hpre 0)).1
  refine ⟨_, (θ_run Cert.KernelIdeal.defs _ _).mono (fun r hr c => hr.1 c) (Cert.KernelIdeal.Hand.run m g hO),
    (θ_run Cert.ReferenceIdeal.defs _ _).mono (fun r hr c => ⟨(hr c).1.trans ?_, (hr c).2⟩) (Cert.ReferenceIdeal.Value.run (F := Ideal) m' g')⟩
  obtain ⟨hlt, hzero⟩ := Preconditions.index_lt_and_zero _ _ _ _ (hpre c)
  obtain ⟨a0, a1, a2, a3⟩ := hagree c
  funext p
  idx_vars p
  obtain rfl : p0 = 0 := Subsingleton.elim _ _
  exact (Cert.ReferenceIdeal.Hand.result_at m' c _ _ _ _ a0 a1 a2 a3 ⟨_, hlt⟩ rfl hzero p1).trans
    (Cert.KernelIdeal.Hand.result_at _ _ _ ⟨_, hlt⟩ (Cert.KernelIdeal.Hand.iblk_row m hO c _ ⟨_, hlt⟩ rfl) p1).symm

/-- Everything the certificate claims. -/
theorem claim : Cert.Claim :=
  ⟨Cert.Kernel.Gen.facts, Cert.KernelIdeal.Gen.facts, Cert.ReferenceIdeal.Gen.facts, Cert.Pre_in_range.Gen.facts,
    Cert.Pre_in_range_zero_bias.Gen.facts, kernel_frame, kernelIdeal_frame, kernelIdeal_frame_zero_bias, reference_frame,
    reference_frame_zero_bias, trivial, results_equal⟩

end Cert.Proof

end
